-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16x8192x64 : Shape := ⟨4, ![2, 16, 8192, 64]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S32x8192x64 : Shape := ⟨3, ![32, 8192, 64]⟩
abbrev S1x8192x64 : Shape := ⟨3, ![1, 8192, 64]⟩
abbrev S128x256 : Shape := ⟨2, ![128, 256]⟩
abbrev S64x64 : Shape := ⟨2, ![64, 64]⟩
abbrev S128x64 : Shape := ⟨2, ![128, 64]⟩
abbrev S128x128 : Shape := ⟨2, ![128, 128]⟩
abbrev S1x128x64 : Shape := ⟨3, ![1, 128, 64]⟩
abbrev S256x64 : Shape := ⟨2, ![256, 64]⟩

abbrev nBuf : Space → Nat
  | .hbm => 70
  | .vmem => 9
  | .smem => 0
  | _ => 0

abbrev bufTy : (tb : Table) → Fin (tcTables nBuf tb) → BufTy
  | .hbm, ⟨0, _⟩ => ⟨S2x16x8192x64, .f32⟩
  | .hbm, ⟨1, _⟩ => ⟨S2x16x8192x64, .f32⟩
  | .hbm, ⟨2, _⟩ => ⟨S2x16x8192x64, .f32⟩
  | .hbm, ⟨3, _⟩ => ⟨S64, .i32⟩
  | .hbm, ⟨4, _⟩ => ⟨S_, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S64, .i1⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S8192, .i32⟩
  | .hbm, ⟨36, _⟩ => ⟨S8192x1, .i32⟩
  | .hbm, ⟨37, _⟩ => ⟨S1x64, .f32⟩
  | .hbm, ⟨38, _⟩ => ⟨S8192x1, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S_, .f32⟩
  | .hbm, ⟨43, _⟩ => ⟨S8192x64, .f32⟩
  | .hbm, ⟨44, _⟩ => ⟨S8192x64, .f32⟩
  | .hbm, ⟨45, _⟩ => ⟨S_, .f32⟩
  | .hbm, ⟨46, _⟩ => ⟨S8192x64, .f32⟩
  | .hbm, ⟨47, _⟩ => ⟨S8192x64, .i1⟩
  | .hbm, ⟨48, _⟩ => ⟨S_, .f32⟩
  | .hbm, ⟨49, _⟩ => ⟨S8192x64, .f32⟩
  | .hbm, ⟨50, _⟩ => ⟨S8192x64, .i1⟩
  | .hbm, ⟨51, _⟩ => ⟨S_, .f32⟩
  | .hbm, ⟨52, _⟩ => ⟨S_, .i1⟩
  | .hbm, ⟨53, _⟩ => ⟨S8192x64, .i1⟩
  | .hbm, ⟨54, _⟩ => ⟨S8192x64, .i1⟩
  | .hbm, ⟨55, _⟩ => ⟨S8192x64, .i1⟩
  | .hbm, ⟨56, _⟩ => ⟨S8192x64, .f32⟩
  | .hbm, ⟨57, _⟩ => ⟨S8192x64, .f32⟩
  | .hbm, ⟨58, _⟩ => ⟨S8192x64, .f32⟩
  | .hbm, ⟨59, _⟩ => ⟨S_, .f32⟩
  | .hbm, ⟨60, _⟩ => ⟨S8192x64, .f32⟩
  | .hbm, ⟨61, _⟩ => ⟨S8192x64, .f32⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S8192x64, .f32⟩
  | .hbm, ⟨66, _⟩ => ⟨S32x8192x64, .f32⟩
  | .hbm, ⟨67, _⟩ => ⟨S32x8192x64, .f32⟩
  | .hbm, ⟨68, _⟩ => ⟨S32x8192x64, .f32⟩
  | .hbm, ⟨69, _⟩ => ⟨S2x16x8192x64, .f32⟩
  | .local _ .vmem, ⟨0, _⟩ => ⟨S1x8192x64, .f32⟩
  | .local _ .vmem, ⟨1, _⟩ => ⟨S1x8192x64, .f32⟩
  | .local _ .vmem, ⟨2, _⟩ => ⟨S1x8192x64, .f32⟩
  | .local _ .vmem, ⟨3, _⟩ => ⟨S1x8192x64, .f32⟩
  | .local _ .vmem, ⟨4, _⟩ => ⟨S8192x64, .f32⟩
  | .local _ .vmem, ⟨5, _⟩ => ⟨S8192x64, .f32⟩
  | .local _ .vmem, ⟨6, _⟩ => ⟨S1x8192x64, .f32⟩
  | .local _ .vmem, ⟨7, _⟩ => ⟨S1x8192x64, .f32⟩
  | .local _ .vmem, ⟨8, _⟩ => ⟨S128x256, .bf16⟩
  | _, _ => ⟨S2x16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_call1_cst_1 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v18 : Ref sig .tc := ⟨.hbm, 58, rfl⟩
abbrev main_cst_4 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x16x8192x64 : Shape := ⟨4, ![2, 16, 8192, 64]⟩
abbrev S64 : Shape := ⟨1, ![64]⟩
abbrev S_ : Shape := ⟨0, ![]⟩
abbrev S1x1x1x64 : Shape := ⟨4, ![1, 1, 1, 64]⟩
abbrev S8192 : Shape := ⟨1, ![8192]⟩
abbrev S1x1x8192x1 : Shape := ⟨4, ![1, 1, 8192, 1]⟩
abbrev S1x1x8192x64 : Shape := ⟨4, ![1, 1, 8192, 64]⟩
abbrev S2x16x8192x32 : Shape := ⟨4, ![2, 16, 8192, 32]⟩
abbrev S2x16x8192x32x1 : Shape := ⟨5, ![2, 16, 8192, 32, 1]⟩
abbrev S2x16x8192x32x2 : Shape := ⟨5, ![2, 16, 8192, 32, 2]⟩
abbrev S2x16x8192x8192 : Shape := ⟨4, ![2, 16, 8192, 8192]⟩
abbrev S8192x1 : Shape := ⟨2, ![8192, 1]⟩
abbrev S1x8192 : Shape := ⟨2, ![1, 8192]⟩
abbrev S8192x8192 : Shape := ⟨2, ![8192, 8192]⟩
abbrev S1x1x8192x8192 : Shape := ⟨4, ![1, 1, 8192, 8192]⟩

abbrev nBuf : Space → Nat
  | .hbm => 89
  | .vmem => 0
  | .smem => 0
  | _ => 0

abbrev bufTy : (tb : Table) → Fin (tcTables nBuf tb) → BufTy
  | .hbm, ⟨0, _⟩ => ⟨S2x16x8192x64, .f32⟩
  | .hbm, ⟨1, _⟩ => ⟨S2x16x8192x64, .f32⟩
  | .hbm, ⟨2, _⟩ => ⟨S2x16x8192x64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S1x1x1x64, .f32⟩
  | .hbm, ⟨30, _⟩ => ⟨S8192, .f32⟩
  | .hbm, ⟨31, _⟩ => ⟨S1x1x8192x1, .f32⟩
  | .hbm, ⟨32, _⟩ => ⟨S1x1x8192x64, .f32⟩
  | .hbm, ⟨33, _⟩ => ⟨S1x1x8192x64, .f32⟩
  | .hbm, ⟨34, _⟩ => ⟨S1x1x8192x64, .f32⟩
  | .hbm, ⟨35, _⟩ => ⟨S2x16x8192x32, .f32⟩
  | .hbm, ⟨36, _⟩ => ⟨S2x16x8192x32, .f32⟩
  | .hbm, ⟨37, _⟩ => ⟨S2x16x8192x32, .f32⟩
  | .hbm, ⟨38, _⟩ => ⟨S2x16x8192x32x1, .f32⟩
  | .hbm, ⟨39, _⟩ => ⟨S2x16x8192x32x1, .f32⟩
  | .hbm, ⟨40, _⟩ => ⟨S2x16x8192x32x2, .f32⟩
  | .hbm, ⟨41, _⟩ => ⟨S2x16x8192x64, .f32⟩
  | .hbm, ⟨42, _⟩ => ⟨S_, .f32⟩
  | .hbm, ⟨43, _⟩ => ⟨S_, .f32⟩
  | .hbm, ⟨44, _⟩ => ⟨S1x1x8192x64, .f32⟩
  | .hbm, ⟨45, _⟩ => ⟨S1x1x8192x64, .f32⟩
  | .hbm, ⟨46, _⟩ => ⟨S_, .f32⟩
  | .hbm, ⟨47, _⟩ => ⟨S1x1x8192x64, .f32⟩
  | .hbm, ⟨48, _⟩ => ⟨S1x1x8192x64, .i1⟩
  | .hbm, ⟨49, _⟩ => ⟨S_, .f32⟩
  | .hbm, ⟨50, _⟩ => ⟨S1x1x8192x64, .f32⟩
  | .hbm, ⟨51, _⟩ => ⟨S1x1x8192x64, .i1⟩
  | .hbm, ⟨52, _⟩ => ⟨S_, .f32⟩
  | .hbm, ⟨53, _⟩ => ⟨S_, .i1⟩
  | .hbm, ⟨54, _⟩ => ⟨S1x1x8192x64, .i1⟩
  | .hbm, ⟨55, _⟩ => ⟨S1x1x8192x64, .i1⟩
  | .hbm, ⟨56, _⟩ => ⟨S1x1x8192x64, .i1⟩
  | .hbm, ⟨57, _⟩ => ⟨S1x1x8192x64, .f32⟩
  | .hbm, ⟨58, _⟩ => ⟨S1x1x8192x64, .f32⟩
  | .hbm, ⟨59, _⟩ => ⟨S1x1x8192x64, .f32⟩
  | .hbm, ⟨60, _⟩ => ⟨S_, .f32⟩
  | .hbm, ⟨61, _⟩ => ⟨S1x1x8192x64, .f32⟩
  | .hbm, ⟨62, _⟩ => ⟨S1x1x8192x64, .f32⟩
  | .hbm, ⟨63, _⟩ => ⟨S1x1x8192x64, .f32⟩
  | .hbm, ⟨64, _⟩ => ⟨S2x16x8192x64, .f32⟩
  | .hbm, ⟨65, _⟩ => ⟨S2x16x8192x64, .f32⟩
  | .hbm, ⟨66, _⟩ => ⟨S1x1x8192x64, .f32⟩
  | .hbm, ⟨67, _⟩ => ⟨S2x16x8192x64, .f32⟩
  | .hbm, ⟨68, _⟩ => ⟨S2x16x8192x64, .f32⟩
  | .hbm, ⟨69, _⟩ => ⟨S2x16x8192x64, .f32⟩
  | .hbm, ⟨70, _⟩ => ⟨S8192, .i32⟩
  | .hbm, ⟨71, _⟩ => ⟨S2x16x8192x8192, .f32⟩
  | .hbm, ⟨72, _⟩ => ⟨S8192x1, .i32⟩
  | .hbm, ⟨73, _⟩ => ⟨S1x8192, .i32⟩
  | .hbm, ⟨74, _⟩ => ⟨S8192x8192, .i32⟩
  | .hbm, ⟨75, _⟩ => ⟨S8192x8192, .i32⟩
  | .hbm, ⟨76, _⟩ => ⟨S8192x8192, .i1⟩
  | .hbm, ⟨77, _⟩ => ⟨S_, .i32⟩
  | .hbm, ⟨78, _⟩ => ⟨S8192x1, .i32⟩
  | .hbm, ⟨79, _⟩ => ⟨S8192x1, .i32⟩
  | .hbm, ⟨80, _⟩ => ⟨S8192x8192, .i32⟩
  | .hbm, ⟨81, _⟩ => ⟨S8192x8192, .i32⟩
  | .hbm, ⟨82, _⟩ => ⟨S8192x8192, .i1⟩
  | .hbm, ⟨83, _⟩ => ⟨S8192x8192, .i1⟩
  | .hbm, ⟨84, _⟩ => ⟨S8192x8192, .f32⟩
  | .hbm, ⟨85, _⟩ => ⟨S1x1x8192x8192, .f32⟩
  | .hbm, ⟨86, _⟩ => ⟨S2x16x8192x8192, .f32⟩
  | .hbm, ⟨87, _⟩ => ⟨S2x16x8192x8192, .f32⟩
  | .hbm, ⟨88, _⟩ => ⟨S2x16x8192x64, .f32⟩
  | _, _ => ⟨S2x16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_cst : Ref sig .tc := ⟨.hbm, 46, rfl⟩
abbrev main_call0_v3 : Ref sig .tc := ⟨.hbm, 47, rfl⟩
abbrev main_call0_v4 : Ref sig .tc := ⟨.hbm, 48, rfl⟩
abbrev main_call0_cst_0 : Ref sig .tc := ⟨.hbm, 49, rfl⟩
abbrev main_call0_v5 : Ref sig .tc := ⟨.hbm, 50, rfl⟩
abbrev main_call0_v6 : Ref sig .tc := ⟨.hbm, 51, rfl⟩
abbrev main_call0_cst_1 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_v12 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]
-- ==== Proof.Blocks.lean ====
module
public import proofs.«01_k».proof.Proof.Gen.KernelIdeal.Frame
@[expose] public section
set_option maxRecDepth 16384
noncomputable section
namespace Cert.KernelIdeal.Blocks
open Idealize.ShloMosaic Idealize.ShloMosaic.TcCoe Cert.KernelIdeal Cert.KernelIdeal.Gen
variable {F : FTy → Type} [FloatOps F]

/-- The 128 rows from row `128·(j+1)` lie within the 8192 rows. -/
theorem slices_rows (j : Fin 63) : S8192x64.Slices ![128 * (j.val + 1), 0] S128x64 := by
  refine ⟨rfl, fun a => ?_⟩
  fin_cases a
  · show 128 * (j.val + 1) + 128 ≤ 8192
    omega
  · show 0 + 64 ≤ 64
    omega

/-- The 256 rows from row `128·j` lie within the 8192 rows. -/
theorem slices_keys (j : Fin 63) : S8192x64.Slices ![128 * j.val, 0] S256x64 := by
  refine ⟨rfl, fun a => ?_⟩
  fin_cases a
  · show 128 * j.val + 256 ≤ 8192
    omega
  · show 0 + 64 ≤ 64
    omega

/-- Block `j+1` of the output lies within the output. -/
theorem inb_block (j : Fin 63) : ∀ a, (![0, 128 * (j.val + 1), 0] : Fin 3 → ℕ) a + S1x128x64.size a ≤ S1x8192x64.size a := by
  intro a
  fin_cases a
  · show 0 + 1 ≤ 1
    omega
  · show 128 * (j.val + 1) + 128 ≤ 8192
    omega
  · show 0 + 64 ≤ 64
    omega

/-- What the body stores into block `j+1`: the scores of its 128 rows against the 256 rows from `128·j`, times the
    mask `M`, times those rows of the values. -/
def slab (Q V : FVec F S8192x64 .bf16) (M : FVec F S128x256 .bf16) (j : Fin 63) : FVec F S1x128x64 .f32 :=
  shapeCast S1x128x64 (matmul dot_S128x256_S256x64_S128x64_1_0_0_1_n_n none
    (mulf (truncf .bf16 (matmul dot_S128x64_S256x64_S128x256_1_1_0_0_n_n none
        (extractStridedSlice S128x64 ![128 * (j.val + 1), 0] Q (slices_rows j))
        (extractStridedSlice S256x64 ![128 * j.val, 0] Q (slices_keys j))
        (constant S128x256 .f32 0x00000000#32)) bitsLt_bf16_f32) M)
    (extractStridedSlice S256x64 ![128 * j.val, 0] V (slices_keys j))
    (constant S128x64 .f32 0x00000000#32)) shapeCasts_S128x64_S1x128x64

/-- What the body stores into block 0: the scores of its 128 rows against each other, times the mask `M`, times
    those rows of the values. -/
def head (Q V : FVec F S8192x64 .bf16) (M : FVec F S128x128 .bf16) : FVec F S1x128x64 .f32 :=
  shapeCast S1x128x64 (matmul dot_S128x128_S128x64_S128x64_1_0_0_1_n_n none
    (mulf (truncf .bf16 (matmul dot_S128x64_S128x64_S128x128_1_1_0_0_n_n none
        (extractStridedSlice S128x64 ![0, 0] Q slices_S8192x64_o0_0_S128x64)
        (extractStridedSlice S128x64 ![0, 0] Q slices_S8192x64_o0_0_S128x64)
        (constant S128x128 .f32 0x00000000#32)) bitsLt_bf16_f32) M)
    (extractStridedSlice S128x64 ![0, 0] V slices_S8192x64_o0_0_S128x64)
    (constant S128x64 .f32 0x00000000#32)) shapeCasts_S128x64_S1x128x64

/-- The store of block `j+1`. -/
def slabPiece (Q V : FVec F S8192x64 .bf16) (M : FVec F S128x256 .bf16) (j : Fin 63) : View.Piece (Elt F) S1x8192x64 .f32 :=
  ⟨Rect.unit (s := S1x8192x64) ![0, 128 * (j.val + 1), 0] S1x128x64.size (inb_block j), slab Q V M j⟩

/-- The store of block 0. -/
def headPiece (Q V : FVec F S8192x64 .bf16) (M : FVec F S128x128 .bf16) : View.Piece (Elt F) S1x8192x64 .f32 :=
  ⟨Rect.unit (s := S1x8192x64) ![0, 0, 0] S1x128x64.size inb_S1x8192x64_S1x128x64_0_0_0, head Q V M⟩

/-- The stores of blocks `n`, …, 1, 0: the newest first. -/
def stores (Q V : FVec F S8192x64 .bf16) (M : FVec F S128x256 .bf16) (M0 : FVec F S128x128 .bf16) :
    (n : ℕ) → n ≤ 63 → List (View.Piece (Elt F) S1x8192x64 .f32)
  | 0, _ => [headPiece Q V M0]
  | n + 1, h => slabPiece Q V M ⟨n, h⟩ :: stores Q V M M0 n (Nat.le_of_succ_le h)

/-- Each of these stores is that of block 0 or that of a later block. -/
theorem mem_stores (Q V : FVec F S8192x64 .bf16) (M : FVec F S128x256 .bf16) (M0 : FVec F S128x128 .bf16)
    (p : View.Piece (Elt F) S1x8192x64 .f32) :
    ∀ (n : ℕ) (h : n ≤ 63), p ∈ stores Q V M M0 n h → p = headPiece Q V M0 ∨ ∃ j, p = slabPiece Q V M j
  | 0, _, hp => .inl (List.mem_singleton.mp hp)
  | n + 1, h, hp => by
    rcases List.mem_cons.mp hp with rfl | hp
    · exact .inr ⟨_, rfl⟩
    · exact mem_stores Q V M M0 p n _ hp

/-- At a point after the first the body's stores are the stores above, over the loads it makes. -/
theorem stores_B (c : Dev nD) (i : grid0.Coords) (arg1 : Memref sig .tc .vmem S1x8192x64 .f32) (harg1 : arg1.IsWhole)
    (arg2 : Memref sig .tc .vmem S1x8192x64 .f32) (harg2 : arg2.IsWhole) (arg3 : Memref sig .tc .vmem S8192x64 .f32) (harg3 : arg3.IsWhole)
    (arg4 : Memref sig .tc .vmem S8192x64 .f32) (harg4 : arg4.IsWhole) (arg5 : Memref sig .tc .vmem S1x8192x64 .f32) (harg5 : arg5.IsWhole)
    (arg6 : Memref sig .tc .vmem S128x256 .bf16) (harg6 : arg6.IsWhole) (hc0 : ¬cond0_0 i)
    (x0 x1 : Vec F S1x8192x64 .f32) (x2 x3 : Vec F S8192x64 .f32) (xs0 : Vec F S128x256 .bf16) :
    (kernelRun0_B c i arg1 harg1 arg2 harg2 arg3 harg3 arg4 harg4 arg5 harg5 arg6 harg6 hc0 x0 x1 x2 x3 xs0).1
      = stores (kernelRun0_B.sl.r_1 c arg1 harg1 arg3 harg3 arg4 harg4 x0 x2 x3) (kernelRun0_B.sl.r_2 c arg2 harg2 x1)
          (View.readAt (Elt F) arg6.view (Rect.unit (s := S128x256) ![0, 0] S128x256.size inb_S128x256_S128x256_0_0).toLoadRect (harg6.unread xs0))
          (View.readAt (Elt F) arg6.view (Rect.unit (s := S128x256) ![0, 128] S128x128.size inb_S128x256_S128x128_0_128).toLoadRect (harg6.unread xs0))
          63 le_rfl := by
  rfl

/-- At the first point they are the same, over the mask the body has just stored. -/
theorem stores_A (c : Dev nD) (i : grid0.Coords) (arg1 : Memref sig .tc .vmem S1x8192x64 .f32) (harg1 : arg1.IsWhole)
    (arg2 : Memref sig .tc .vmem S1x8192x64 .f32) (harg2 : arg2.IsWhole) (arg3 : Memref sig .tc .vmem S8192x64 .f32) (harg3 : arg3.IsWhole)
    (arg4 : Memref sig .tc .vmem S8192x64 .f32) (harg4 : arg4.IsWhole) (arg5 : Memref sig .tc .vmem S1x8192x64 .f32) (harg5 : arg5.IsWhole)
    (arg6 : Memref sig .tc .vmem S128x256 .bf16) (harg6 : arg6.IsWhole) (hc0 : cond0_0 i)
    (x0 x1 : Vec F S1x8192x64 .f32) (x2 x3 : Vec F S8192x64 .f32) :
    (kernelRun0_A c i arg1 harg1 arg2 harg2 arg3 harg3 arg4 harg4 arg5 harg5 arg6 harg6 hc0 x0 x1 x2 x3).1
      = stores (kernelRun0_A.sl.r_1 c arg1 harg1 arg3 harg3 arg4 harg4 x0 x2 x3) (kernelRun0_A.sl.r_2 c arg2 harg2 x1)
          (kernelRun0_A.sl.v66 c arg6) (kernelRun0_A.sl.v54 c arg6) 63 le_rfl := by
  rfl

end Cert.KernelIdeal.Blocks
-- ==== Proof.Loads.lean ====
module
public import proofs.«01_k».proof.Proof.Blocks
public import Idealize.ShloMosaic.Lib.Pipeline.ValueKit
@[expose] public section
set_option maxRecDepth 16384
noncomputable section
namespace Cert.KernelIdeal.Blocks
open Idealize.ShloMosaic Idealize.ShloMosaic.TcCoe Cert.KernelIdeal Cert.KernelIdeal.Gen
variable {F : FTy → Type} [FloatOps F]

/-- The rotated rows, over a head's block of queries and the two tables. -/
def rot (x0 : Vec F S1x8192x64 .f32) (x2 x3 : Vec F S8192x64 .f32) : FVec F S8192x64 .bf16 :=
  k0_pay6 (k0_pay4 x0) k0_pay5 (constant S8192x64 .f32 0x00000000#32) x2 x3

/-- The right half of the mask, which block 0 uses. -/
def rightHalf (M : FVec F S128x256 .bf16) : FVec F S128x128 .bf16 :=
  View.ld (Val := Elt F) (e' := .bf16) M (Rect.unit (s := S128x256) ![0, 128] S128x128.size inb_S128x256_S128x128_0_128)

/-- The block of the output that a point leaves, over its input blocks and the mask. -/
def blockOut (x0 x1 : Vec F S1x8192x64 .f32) (x2 x3 : Vec F S8192x64 .f32) (M : FVec F S128x256 .bf16) : Vec F S1x8192x64 .f32 :=
  View.canon (stores (rot x0 x2 x3) (k0_pay7 x1) M (rightHalf M) 63 le_rfl)

/-- At a point after the first the output block is that of the mask the scratch holds. -/
theorem out_B (c : Dev nD) (i : grid0.Coords) (arg1 : Memref sig .tc .vmem S1x8192x64 .f32) (harg1 : arg1.IsWhole)
    (arg2 : Memref sig .tc .vmem S1x8192x64 .f32) (harg2 : arg2.IsWhole) (arg3 : Memref sig .tc .vmem S8192x64 .f32) (harg3 : arg3.IsWhole)
    (arg4 : Memref sig .tc .vmem S8192x64 .f32) (harg4 : arg4.IsWhole) (arg5 : Memref sig .tc .vmem S1x8192x64 .f32) (harg5 : arg5.IsWhole)
    (arg6 : Memref sig .tc .vmem S128x256 .bf16) (harg6 : arg6.IsWhole) (hc0 : ¬cond0_0 i)
    (x0 x1 : Vec F S1x8192x64 .f32) (x2 x3 : Vec F S8192x64 .f32) (xs0 : Vec F S128x256 .bf16) :
    out0_B_4 c i arg1 harg1 arg2 harg2 arg3 harg3 arg4 harg4 arg5 harg5 arg6 harg6 hc0 x0 x1 x2 x3 xs0 = blockOut x0 x1 x2 x3 xs0 := by
  unfold out0_B_4
  rw [stores_B, View.read_writes_junk_eq_canon]
  unfold kernelRun0_B.sl.r_1 kernelRun0_B.sl.r_2 kernelRun0_B.sl.r kernelRun0_B.sl.cst_13
  simp (disch := decide) only [View.ld_unit_lit', View.readAt_eq_ld, Memref.IsWhole.read_unread]
  rfl

/-- At the first point the output block is that of the mask the body builds. -/
theorem out_A (c : Dev nD) (i : grid0.Coords) (arg1 : Memref sig .tc .vmem S1x8192x64 .f32) (harg1 : arg1.IsWhole)
    (arg2 : Memref sig .tc .vmem S1x8192x64 .f32) (harg2 : arg2.IsWhole) (arg3 : Memref sig .tc .vmem S8192x64 .f32) (harg3 : arg3.IsWhole)
    (arg4 : Memref sig .tc .vmem S8192x64 .f32) (harg4 : arg4.IsWhole) (arg5 : Memref sig .tc .vmem S1x8192x64 .f32) (harg5 : arg5.IsWhole)
    (arg6 : Memref sig .tc .vmem S128x256 .bf16) (harg6 : arg6.IsWhole) (hc0 : cond0_0 i)
    (x0 x1 : Vec F S1x8192x64 .f32) (x2 x3 : Vec F S8192x64 .f32) :
    out0_A_4 c i arg1 harg1 arg2 harg2 arg3 harg3 arg4 harg4 arg5 harg5 arg6 harg6 hc0 x0 x1 x2 x3 = blockOut x0 x1 x2 x3 k0_pay3 := by
  unfold out0_A_4
  rw [stores_A, View.read_writes_junk_eq_canon]
  unfold kernelRun0_A.sl.r_1 kernelRun0_A.sl.r_2 kernelRun0_A.sl.r kernelRun0_A.sl.cst_13 kernelRun0_A.sl.v66 kernelRun0_A.sl.v54
    kernelRun0_A.sl.HS0_1
  simp (disch := decide) only [View.ld_unit_lit', View.readAt_eq_ld, Memref.IsWhole.read_unread, View.readCov_unit_lit',
    View.readCov, View.read_writes_junk_eq_canon, View.canon_cons_unit_lit']
  rfl

/-- At the first point the scratch is left holding the mask. -/
theorem scratch_A (c : Dev nD) (i : grid0.Coords) (arg1 : Memref sig .tc .vmem S1x8192x64 .f32) (harg1 : arg1.IsWhole)
    (arg2 : Memref sig .tc .vmem S1x8192x64 .f32) (harg2 : arg2.IsWhole) (arg3 : Memref sig .tc .vmem S8192x64 .f32) (harg3 : arg3.IsWhole)
    (arg4 : Memref sig .tc .vmem S8192x64 .f32) (harg4 : arg4.IsWhole) (arg5 : Memref sig .tc .vmem S1x8192x64 .f32) (harg5 : arg5.IsWhole)
    (arg6 : Memref sig .tc .vmem S128x256 .bf16) (harg6 : arg6.IsWhole) (hc0 : cond0_0 i)
    (x0 x1 : Vec F S1x8192x64 .f32) (x2 x3 : Vec F S8192x64 .f32) :
    sout0_A_0 c i arg1 harg1 arg2 harg2 arg3 harg3 arg4 harg4 arg5 harg5 arg6 harg6 hc0 x0 x1 x2 x3 = k0_pay3 := by
  frame_out

variable (m : (ℓ : Loc nD τ sig) → Buf (Elt F) ℓ)

/-- After every point the scratch holds the mask. -/
theorem scratch_at (c : Dev nD) : ∀ (n : ℕ) (hn : n < cfg0.N), (outsAt0 m c n hn).2 = k0_pay3 (F := F)
  | 0, hn => by
    rw [show outsAt0 m c 0 hn = _ from outsAt0_A m c ⟨0, hn⟩ (Nat.zero_mod _)]
    dsimp only
    rw [scratch_A]
  | n + 1, hn => by
    by_cases h : (n + 1) % 32 = 0
    · rw [show outsAt0 m c (n + 1) hn = _ from outsAt0_A m c ⟨n + 1, hn⟩ h]
      dsimp only
      rw [scratch_A]
    · rw [show outsAt0 m c (n + 1) hn = _ from outsAt0_B m c ⟨n + 1, hn⟩ h]
      dsimp only [sout0_B_0]
      exact scratch_at c n _

/-- The output block a point leaves, over its input blocks. -/
theorem out_at (c : Dev nD) (t : Fin cfg0.N) :
    (outsAt0 m c t.val t.isLt).1 = blockOut (iblk m c 0 t) (iblk m c 1 t) (iblk m c 2 t) (iblk m c 3 t) (k0_pay3 (F := F)) := by
  by_cases h : t.val % 32 = 0
  · rw [outsAt0_A m c t h]
    dsimp only
    rw [out_A]
  · rw [outsAt0_B m c t h]
    dsimp only
    rw [out_B, scratch_at]

end Cert.KernelIdeal.Blocks
-- ==== Proof.Words.lean ====
module
public import Idealize.ShloMosaic.Lib.Pointwise
public import Idealize.ShloMosaic.Lib.FinSumWindow
public import Idealize.ShloMosaic.Lib.IdealHost
@[expose] public section
noncomputable section
namespace Cert.Rope
open Idealize.ShloMosaic

/-- A lane's frequency in turns per row: two to the power of minus a quarter of the lane number rounded down to an
    even number, divided by the printed 2π. -/
def rate (d : Fin 64) : EReal :=
  Ideal.div ((Real.rpow 2 (-((d.val / 2 * 2 : ℕ) : ℝ) / 4) : ℝ) : EReal) (Ideal.ofBits FTy.f32 1086918619#32)

/-- The angle of a phase: the phase modulo one, times the printed 2π. -/
def angle (p : EReal) : EReal :=
  Scalar.select (IntOp.andi (IntOp.cmpi CmpIPredicate.ne (BitVec.ofBool (decide (Ideal.remf p 1 < 0)))
      (BitVec.ofBool (decide ((1 : EReal) < 0)))) (BitVec.ofBool (decide (Ideal.remf p 1 ≠ 0))))
    (Ideal.remf p 1 + 1) (Ideal.remf p 1) * Ideal.ofBits FTy.f32 1086918619#32

/-- The phase of row `i` in lane `d`. -/
def phase (i : Fin 8192) (d : Fin 64) : EReal := FloatOps.sitofp (F := Ideal) FTy.f32 (BitVec.ofNat 32 i.val) * rate d

/-- The lane beside lane `d` in its pair. -/
def mate (d : Fin 64) : Fin 64 := ⟨if d.val % 2 = 0 then d.val + 1 else d.val - 1, by split <;> omega⟩

/-- A row with the lanes of each pair exchanged, the first of the pair negated. -/
def turn (f : Fin 64 → EReal) (d : Fin 64) : EReal := if d.val % 2 = 0 then -f (mate d) else f (mate d)

/-- Row `i` of a head, rotated. -/
def roped (x : Fin 8192 → Fin 64 → EReal) (i : Fin 8192) (d : Fin 64) : EReal :=
  x i d * Ideal.cos (angle (phase i d)) + turn (x i) d * Ideal.sin (angle (phase i d))

/-- Attention of one head without a softmax: row `i`'s scores against every row `k`, kept on the band
    `i - 128 ≤ k < i`, times the values. -/
def att (Q V : Fin 8192 → Fin 64 → EReal) (i : Fin 8192) (d : Fin 64) : EReal :=
  ∑ k : Fin 8192, ((∑ e : Fin 64, Q i e * Q k e) * (if k.val < i.val ∧ i.val ≤ k.val + 128 then 1 else 0)) * V k d

/-- A row of block `j+1` attends within the 256 rows from `128·j`. -/
theorem att_slab (Q V : Fin 8192 → Fin 64 → EReal) (j : Fin 63) (r : Fin 128) (d : Fin 64) :
    att Q V ⟨128 * (j.val + 1) + r.val, by omega⟩ d
      = ∑ k : Fin 256, ((∑ e : Fin 64, Q ⟨128 * (j.val + 1) + r.val, by omega⟩ e * Q ⟨128 * j.val + k.val, by omega⟩ e)
          * (if r.val ≤ k.val ∧ k.val < r.val + 128 then 1 else 0)) * V ⟨128 * j.val + k.val, by omega⟩ d := by
  unfold att
  rw [FinSumWindow.sum_window (W := 256) (128 * j.val) (by omega)]
  · refine Finset.sum_congr rfl fun k _ => ?_
    have hiff : (128 * j.val + k.val < 128 * (j.val + 1) + r.val ∧ 128 * (j.val + 1) + r.val ≤ 128 * j.val + k.val + 128)
        ↔ (r.val ≤ k.val ∧ k.val < r.val + 128) := by omega
    simp only [hiff]
  · intro k hk
    rw [if_neg (fun h => hk (by dsimp only at h; omega)), mul_zero, zero_mul]

/-- A row of block 0 attends within the first 128 rows. -/
theorem att_head (Q V : Fin 8192 → Fin 64 → EReal) (r : Fin 128) (d : Fin 64) :
    att Q V ⟨r.val, by omega⟩ d
      = ∑ k : Fin 128, ((∑ e : Fin 64, Q ⟨r.val, by omega⟩ e * Q ⟨k.val, by omega⟩ e)
          * (if r.val ≤ 128 + k.val ∧ 128 + k.val < r.val + 128 then 1 else 0)) * V ⟨k.val, by omega⟩ d := by
  unfold att
  rw [FinSumWindow.sum_window (W := 128) 0 (by omega)]
  · refine Finset.sum_congr rfl fun k _ => ?_
    have hiff : (0 + k.val < r.val ∧ r.val ≤ 0 + k.val + 128) ↔ (r.val ≤ 128 + k.val ∧ 128 + k.val < r.val + 128) := by omega
    simp only [hiff]
    simp only [Nat.zero_add]
  · intro k hk
    rw [if_neg (fun h => hk (by dsimp only at h; omega)), mul_zero, zero_mul]

end Cert.Rope
-- ==== Proof.Window.lean ====
module
public import proofs.«01_k».proof.Proof.Loads
public import proofs.«01_k».proof.Proof.Words
@[expose] public section
set_option maxRecDepth 16384
noncomputable section
namespace Cert.KernelIdeal.Blocks
open Idealize.ShloMosaic Idealize.ShloMosaic.TcCoe Cert.KernelIdeal Cert.KernelIdeal.Gen Cert.Rope

/-- One entry of the block written for the queries of a slab after the first: the sum over its 256 keys of masked score times value. -/
theorem slab_apply (Q V : FVec Ideal S8192x64 .bf16) (M : FVec Ideal S128x256 .bf16) (j : Fin 63) (r : Fin 128) (d : Fin 64) :
    slab Q V M j (ix3 0 r d) = ∑ k : Fin 256, ((∑ e : Fin 64, Q (ix2 ⟨128 * (j.val + 1) + r.val, by omega⟩ e)
      * Q (ix2 ⟨128 * j.val + k.val, by omega⟩ e)) * M (ix2 r k)) * V (ix2 ⟨128 * j.val + k.val, by omega⟩ d) := by
  pointwise [slab]

/-- One entry of the block written for the first slab, whose only keys are its own 128. -/
theorem head_apply (Q V : FVec Ideal S8192x64 .bf16) (M : FVec Ideal S128x256 .bf16) (r : Fin 128) (d : Fin 64) :
    head Q V (rightHalf M) (ix3 0 r d) = ∑ k : Fin 128, ((∑ e : Fin 64, Q (ix2 ⟨r.val, by omega⟩ e)
      * Q (ix2 ⟨k.val, by omega⟩ e)) * M (ix2 r ⟨128 + k.val, by omega⟩)) * V (ix2 ⟨k.val, by omega⟩ d) := by
  pointwise [head, rightHalf]

/-- The band of the mask, as a bit: key column `k` of a window of row `r`. -/
theorem mask_bit (r : Fin 128) (k : Fin 256) :
    IntOp.andi (IntOp.cmpi .sge (BitVec.ofNat 32 k.val) (BitVec.ofNat 32 r.val))
      (IntOp.cmpi .slt (BitVec.ofNat 32 k.val) (IntOp.addi (BitVec.ofNat 32 r.val) 128#32))
      = if r.val ≤ k.val ∧ k.val < r.val + 128 then 1#1 else 0#1 := by
  have hr := r.isLt
  have hk := k.isLt
  rw [show IntOp.addi (BitVec.ofNat 32 r.val) 128#32 = BitVec.ofNat 32 (r.val + 128) from (BitVec.ofNat_add ..).symm]
  simp (disch := omega) only [hlo_ix]
  by_cases h1 : r.val ≤ k.val <;> by_cases h2 : k.val < r.val + 128 <;> simp [h1, h2]

/-- The mask tile is one on the band `r ≤ k < r + 128` and zero off it. -/
theorem mask_apply (r : Fin 128) (k : Fin 256) :
    k0_pay3 (F := Ideal) (ix2 r k) = if r.val ≤ k.val ∧ k.val < r.val + 128 then 1 else 0 := by
  pointwise [k0_pay3]
  rw [mask_bit]
  split
  · show (((BitVec.setWidth 32 1#1).toInt : ℝ) : EReal) = 1
    norm_num
  · show (((BitVec.setWidth 32 0#1).toInt : ℝ) : EReal) = 0
    norm_num

/-- The parity word of a lane as the kernel computes it: the remainder by two. -/
def parity (d : BitVec 32) : BitVec 32 :=
  let two := Scalar.select (Scalar.cmpi CmpIPredicate.eq 2#32 0#32) 1#32 2#32
  let rem := IntOp.remsi ArithUnit.vector d two
  Scalar.select (IntOp.andi (IntOp.xori (IntOp.cmpi .slt rem 0#32) (Scalar.cmpi CmpIPredicate.slt two 0#32))
    (IntOp.cmpi .ne rem 0#32)) (IntOp.addi rem two) rem

/-- The bit that puts `1` into the turning matrix: an odd lane and the lane before it. -/
theorem plus_bit : ∀ x d : Fin 64,
    IntOp.andi (IntOp.cmpi .eq (BitVec.ofNat 32 x.val) (IntOp.subi (BitVec.ofNat 32 d.val) 1#32))
      (IntOp.xori (IntOp.cmpi .eq (parity (BitVec.ofNat 32 d.val)) 0#32) 1#1)
      = if d.val % 2 = 1 ∧ x = mate d then 1#1 else 0#1 := by decide +kernel

/-- The bit that puts `-1` into the turning matrix: an even lane and the lane after it. -/
theorem minus_bit : ∀ x d : Fin 64,
    IntOp.andi (IntOp.cmpi .eq (BitVec.ofNat 32 x.val) (IntOp.addi (BitVec.ofNat 32 d.val) 1#32))
      (IntOp.cmpi .eq (parity (BitVec.ofNat 32 d.val)) 0#32)
      = if d.val % 2 = 0 ∧ x = mate d then 1#1 else 0#1 := by decide +kernel

/-- The word of the literal -1. -/
theorem ofBits_neg_one : Ideal.ofBits .f32 3212836864#32 = -1 := by
  simp [Ideal.ofBits, Ideal.ieee, -EReal.coe_mul, -EReal.coe_neg]; norm_num

/-- The rotated row: the input row times the cosines plus the turned row times the sines. -/
theorem rot_apply (x0 : FVec Ideal S1x8192x64 .f32) (x2 x3 : FVec Ideal S8192x64 .f32) (i : Fin 8192) (d : Fin 64) :
    rot (F := Ideal) x0 x2 x3 (ix2 i d)
      = x0 (ix3 0 i d) * x2 (ix2 i d) + turn (fun e => x0 (ix3 0 i e)) d * x3 (ix2 i d) := by
  pointwise [rot, k0_pay6, k0_pay4, k0_pay5]
  congr 2
  refine (Finset.sum_congr rfl fun x _ => congrArg (x0 (ix3 0 i x) * ·)
    (show _ = if x = mate d then (if d.val % 2 = 0 then (-1 : EReal) else 1) else 0 from ?_)).trans ?_
  · refine Eq.trans (b := Scalar.select (IntOp.andi (IntOp.cmpi .eq (BitVec.ofNat 32 x.val)
        (IntOp.subi (BitVec.ofNat 32 d.val) 1#32))
        (IntOp.xori (IntOp.cmpi .eq (parity (BitVec.ofNat 32 d.val)) 0#32) 1#1)) (1 : EReal)
        (Scalar.select (IntOp.andi (IntOp.cmpi .eq (BitVec.ofNat 32 x.val) (IntOp.addi (BitVec.ofNat 32 d.val) 1#32))
        (IntOp.cmpi .eq (parity (BitVec.ofNat 32 d.val)) 0#32)) (Ideal.ofBits FTy.f32 3212836864#32) 0)) rfl ?_
    rw [plus_bit, minus_bit, ofBits_neg_one]
    unfold Scalar.select
    by_cases hx : x = mate d <;> rcases Nat.mod_two_eq_zero_or_one d.val with h | h <;> simp [hx, h]
  · simp only [mul_ite, mul_zero, Finset.sum_ite_eq', Finset.mem_univ, if_true, turn]
    split <;> simp

end Cert.KernelIdeal.Blocks
-- ==== Proof.Attend.lean ====
module
public import proofs.«01_k».proof.Proof.Window
@[expose] public section
set_option maxRecDepth 16384
noncomputable section
namespace Cert.KernelIdeal.Blocks
open Idealize.ShloMosaic Idealize.ShloMosaic.TcCoe Cert.KernelIdeal Cert.KernelIdeal.Gen Cert.Rope

/-- The store of every block is among the stores. -/
theorem slab_mem (Q V : FVec Ideal S8192x64 .bf16) (M : FVec Ideal S128x256 .bf16) (M0 : FVec Ideal S128x128 .bf16) (j : Fin 63) :
    ∀ (n : ℕ) (h : n ≤ 63), j.val < n → slabPiece Q V M j ∈ stores Q V M M0 n h
  | 0, _, hj => absurd hj (Nat.not_lt_zero _)
  | n + 1, h, hj => by
    rcases Nat.lt_succ_iff_lt_or_eq.mp hj with hj | rfl
    · exact List.mem_cons_of_mem _ (slab_mem Q V M M0 j n _ hj)
    · exact List.mem_cons_self

/-- The store of block 0 is among the stores. -/
theorem head_mem (Q V : FVec Ideal S8192x64 .bf16) (M : FVec Ideal S128x256 .bf16) (M0 : FVec Ideal S128x128 .bf16) :
    ∀ (n : ℕ) (h : n ≤ 63), headPiece Q V M0 ∈ stores Q V M M0 n h
  | 0, _ => List.mem_singleton_self _
  | n + 1, h => List.mem_cons_of_mem _ (head_mem Q V M M0 n _)

/-- An index of a block of rows is a row and a lane. -/
theorem row_idx (x : S1x128x64.Idx) : ∃ (r : Fin 128) (e : Fin 64), x = ix3 0 r e := by
  refine ⟨x 1, x 2, (eq_ix3 x).trans ?_⟩
  rw [show x 0 = (0 : Fin 1) from Subsingleton.elim (α := Fin 1) _ _]

/-- The output block of a point is the attention of its rotated rows and its values. -/
theorem blockOut_apply (x0 x1 : FVec Ideal S1x8192x64 .f32) (x2 x3 : FVec Ideal S8192x64 .f32) (i : Fin 8192) (d : Fin 64) :
    blockOut (F := Ideal) x0 x1 x2 x3 k0_pay3 (ix3 0 i d)
      = att (fun k e => rot (F := Ideal) x0 x2 x3 (ix2 k e)) (fun k e => x1 (ix3 0 k e)) i d := by
  have hV : ∀ (k : Fin 8192) (e : Fin 64), k0_pay7 (F := Ideal) x1 (ix2 k e) = x1 (ix3 0 k e) := by
    intro k e
    pointwise [k0_pay7]
  unfold blockOut
  generalize rot (F := Ideal) x0 x2 x3 = Q
  refine View.canon_apply_of_pieces (Val := Elt Ideal) (S := S1x8192x64) (e := .f32)
    (fun y => att (fun k e => Q (ix2 k e)) (fun k e => x1 (ix3 0 k e)) (y 1) (y 2)) _ ?_ (ix3 0 i d) ?_
  · intro p hp x
    obtain rfl | ⟨j, rfl⟩ := mem_stores _ _ _ _ p _ _ hp
    · obtain ⟨r, e, rfl⟩ := row_idx x
      refine (head_apply Q _ _ r e).trans ?_
      simp only [mask_apply, hV]
      refine (att_head (fun k e => Q (ix2 k e)) (fun k e => x1 (ix3 0 k e)) r e).symm.trans ?_
      refine congrArg₂ (att _ _) (Fin.ext ?_) (Fin.ext ?_)
      · show r.val = 0 + 1 * r.val
        omega
      · show e.val = 0 + 1 * e.val
        omega
    · obtain ⟨r, e, rfl⟩ := row_idx x
      refine (slab_apply Q _ _ j r e).trans ?_
      simp only [mask_apply, hV]
      refine (att_slab (fun k e => Q (ix2 k e)) (fun k e => x1 (ix3 0 k e)) j r e).symm.trans ?_
      refine congrArg₂ (att _ _) (Fin.ext ?_) (Fin.ext ?_)
      · show 128 * (j.val + 1) + r.val = 128 * (j.val + 1) + 1 * r.val
        omega
      · show e.val = 0 + 1 * e.val
        omega
  · by_cases hi : i.val < 128
    · refine ⟨_, head_mem _ _ _ _ 63 le_rfl, ?_⟩
      refine Rect.mem_set_unit (inb := inb_S1x8192x64_S1x128x64_0_0_0) |>.mpr fun a => ?_
      fin_cases a
      · show 0 ≤ 0 ∧ 0 < 0 + 1
        omega
      · show 0 ≤ i.val ∧ i.val < 0 + 128
        omega
      · show 0 ≤ d.val ∧ d.val < 0 + 64
        omega
    · refine ⟨_, slab_mem _ _ _ _ ⟨i.val / 128 - 1, by omega⟩ 63 le_rfl (by show i.val / 128 - 1 < 63; omega), ?_⟩
      refine Rect.mem_set_unit (inb := inb_block _) |>.mpr fun a => ?_
      fin_cases a
      · show 0 ≤ 0 ∧ 0 < 0 + 1
        omega
      · show 128 * (i.val / 128 - 1 + 1) ≤ i.val ∧ i.val < 128 * (i.val / 128 - 1 + 1) + 128
        omega
      · show 0 ≤ d.val ∧ d.val < 0 + 64
        omega

end Cert.KernelIdeal.Blocks
-- ==== Proof.Tables.lean ====
module
public import proofs.«01_k».proof.Proof.Attend
public import Idealize.ShloMosaic.Lib.Claim
@[expose] public section
set_option maxRecDepth 16384
noncomputable section
namespace Cert.KernelIdeal.Blocks
open Idealize.ShloMosaic Idealize.ShloMosaic.TcCoe Cert.KernelIdeal Cert.KernelIdeal.Gen
variable {F : FTy → Type} [FloatOps F]

/-- The lanes' pair numbers: the lane number divided by two, rounded down. -/
def pairs : IVec S64 32 :=
  let two : IVec S64 32 := broadcastInDim S64 ![] bcast_S_S64 (constantI S_ 32 2#32)
  let quot : IVec S64 32 := Host.divsi (iotaInDim S64 32 0) two
  select (andi (cmpi .ne (signi (iotaInDim S64 32 0)) (broadcastInDim S64 ![] bcast_S_S64 (signi (constantI S_ 32 2#32))))
    (cmpi .ne (Host.remsi (iotaInDim S64 32 0) two) (broadcastInDim S64 ![] bcast_S_S64 (constantI S_ 32 0#32))))
    (subi quot (broadcastInDim S64 ![] bcast_S_S64 (constantI S_ 32 1#32))) quot

/-- The lanes' frequencies. -/
def freqs : FVec F S64 .f32 :=
  Host.divf (Host.powf (broadcastInDim S64 ![] bcast_S_S64 (constant S_ .f32 0x40000000#32))
    (mulf (broadcastInDim S64 ![] bcast_S_S64 (constant S_ .f32 0xBE800000#32))
      (sitofp .f32 (muli pairs (broadcastInDim S64 ![] bcast_S_S64 (constantI S_ 32 2#32))))))
    (broadcastInDim S64 ![] bcast_S_S64 (constant S_ .f32 0x40C90FDB#32))

/-- The phases: row number times frequency. -/
def phases : FVec F S8192x64 .f32 :=
  mulf (broadcastInDim S8192x64 ![0, 1] bcast_S8192x1_S8192x64_0_1
      (sitofp .f32 (broadcastInDim S8192x1 ![0] bcast_S8192_S8192x1_0 (iotaInDim S8192 32 0))))
    (broadcastInDim S8192x64 ![0, 1] bcast_S1x64_S8192x64_0_1 (broadcastInDim S1x64 ![1] bcast_S64_S1x64_1 freqs))

/-- The angles of given phases: the phase modulo one, times 2π. -/
def angles (ph : FVec F S8192x64 .f32) : FVec F S8192x64 .f32 :=
  let one : FVec F S8192x64 .f32 := broadcastInDim S8192x64 ![] bcast_S_S8192x64 (constant S_ .f32 0x3F800000#32)
  let zero : FVec F S8192x64 .f32 := broadcastInDim S8192x64 ![] bcast_S_S8192x64 (constant S_ .f32 0x00000000#32)
  let rem : FVec F S8192x64 .f32 := Host.remf ph one
  mulf (select (andi (cmpi .ne (cmpf .olt rem zero) (broadcastInDim S8192x64 ![] bcast_S_S8192x64
        (cmpf .olt (constant (F := F) S_ .f32 0x3F800000#32) (constant S_ .f32 0x00000000#32)))) (cmpf .une rem zero))
      (addf rem one) rem)
    (broadcastInDim S8192x64 ![] bcast_S_S8192x64 (constant S_ .f32 0x40C90FDB#32))

variable (m : (ℓ : Loc nD τ sig) → Buf (Elt F) ℓ) (c : Dev nD)

/-- The first table holds the cosines of the angles. -/
theorem cos_read : V m c main_v22 = Host.cos (angles (phases (F := F))) := by
  unfold V V0
  simp only [hostOps0, hostOps0_1, hostOps0_2, hostOps0_3, hostOps0_4, List.flatten_cons, List.flatten_nil, List.cons_append, List.nil_append, List.append_nil]
  entry_read
  rfl

/-- The second table holds the sines of the angles. -/
theorem sin_read : V m c main_v24 = Host.sin (angles (phases (F := F))) := by
  unfold V V0
  simp only [hostOps0, hostOps0_1, hostOps0_2, hostOps0_3, hostOps0_4, List.flatten_cons, List.flatten_nil, List.cons_append, List.nil_append, List.append_nil]
  entry_read
  rfl

/-- The queries' array is the first argument, its heads stacked. -/
theorem q_read : V m c main_v25 = shapeCast S32x8192x64 (m ((c : Thread nD τ).loc main_arg0)) shapeCasts_S2x16x8192x64_S32x8192x64 := by
  unfold V V0
  simp only [hostOps0, hostOps0_1, hostOps0_2, hostOps0_3, hostOps0_4, List.flatten_cons, List.flatten_nil, List.cons_append, List.nil_append, List.append_nil]
  entry_read
  rfl

/-- The values' array is the third argument, its heads stacked. -/
theorem v_read : V m c main_v26 = shapeCast S32x8192x64 (m ((c : Thread nD τ).loc main_arg2)) shapeCasts_S2x16x8192x64_S32x8192x64 := by
  unfold V V0
  simp only [hostOps0, hostOps0_1, hostOps0_2, hostOps0_3, hostOps0_4, List.flatten_cons, List.flatten_nil, List.cons_append, List.nil_append, List.append_nil]
  entry_read
  rfl

end Cert.KernelIdeal.Blocks
-- ==== Proof.Angles.lean ====
module
public import proofs.«01_k».proof.Proof.Tables
@[expose] public section
set_option maxRecDepth 16384
noncomputable section
namespace Cert.KernelIdeal.Blocks
open Idealize.ShloMosaic Idealize.ShloMosaic.TcCoe Cert.KernelIdeal Cert.KernelIdeal.Gen Cert.Rope

/-- A lane's number rounded down to an even number, as the kernel's host computes it. -/
theorem pair_word : ∀ d : Fin 64, IntOp.muli (pairs (ix1 d)) 2#32 = BitVec.ofNat 32 (d.val / 2 * 2) := by
  decide +kernel

/-- The word of the literal 2. -/
theorem ofBits_two : Ideal.ofBits FTy.f32 1073741824#32 = ((2 : ℝ) : EReal) := by
  simp [Ideal.ofBits, Ideal.ieee, -EReal.coe_mul]; norm_num
/-- The word of the literal -1/4. -/
theorem ofBits_neg_quarter : Ideal.ofBits FTy.f32 3196059648#32 = ((-(1 / 4) : ℝ) : EReal) := by
  simp [Ideal.ofBits, Ideal.ieee, -EReal.coe_mul, -EReal.coe_neg]; norm_num

/-- The kernel's frequencies are the rates. -/
theorem freqs_apply (d : Fin 64) : freqs (F := Ideal) (ix1 d) = rate d := by
  pointwise [freqs]
  rw [pair_word, ofBits_two, ofBits_neg_quarter]
  rw [show FloatOps.sitofp (F := Ideal) FTy.f32 (BitVec.ofNat 32 (d.val / 2 * 2)) = (((d.val / 2 * 2 : ℕ) : ℝ) : EReal) from ?_,
    ← EReal.coe_mul, Ideal.pow_coe_coe]
  · unfold rate
    rw [show (-(1 / 4) : ℝ) * ((d.val / 2 * 2 : ℕ) : ℝ) = -((d.val / 2 * 2 : ℕ) : ℝ) / 4 by ring]
  · show (((BitVec.ofNat 32 (d.val / 2 * 2)).toInt : ℝ) : EReal) = _
    rw [WordCmp.toInt_ofNat_of_lt (by have := d.isLt; omega), Int.cast_natCast]

/-- The kernel's phases. -/
theorem phases_apply (i : Fin 8192) (d : Fin 64) : phases (F := Ideal) (ix2 i d) = phase i d := by
  pointwise [phases]
  rw [freqs_apply]
  rfl

/-- The kernel's angles. -/
theorem angles_apply (ph : FVec Ideal S8192x64 .f32) (i : Fin 8192) (d : Fin 64) :
    angles (F := Ideal) ph (ix2 i d) = angle (ph (ix2 i d)) := by
  pointwise [angles]
  rfl

/-- The kernel's table of cosines. -/
theorem cos_apply (i : Fin 8192) (d : Fin 64) :
    (Host.cos (angles (phases (F := Ideal))) : FVec Ideal S8192x64 .f32) (ix2 i d) = Ideal.cos (angle (phase i d)) := by
  rw [← phases_apply, ← angles_apply]
  rfl

/-- The kernel's table of sines. -/
theorem sin_apply (i : Fin 8192) (d : Fin 64) :
    (Host.sin (angles (phases (F := Ideal))) : FVec Ideal S8192x64 .f32) (ix2 i d) = Ideal.sin (angle (phase i d)) := by
  rw [← phases_apply, ← angles_apply]
  rfl

end Cert.KernelIdeal.Blocks
-- ==== Proof.Result.lean ====
module
public import proofs.«01_k».proof.Proof.Angles
@[expose] public section
set_option maxRecDepth 16384
noncomputable section
namespace Cert.KernelIdeal.Blocks
open Idealize.ShloMosaic Idealize.ShloMosaic.TcCoe Idealize.SL.Sem Cert.KernelIdeal Cert.KernelIdeal.Gen Cert.Rope

variable (m : (ℓ : Loc nD τ sig) → Buf (Elt Ideal) ℓ) (c : Dev nD)

/-- Where the windows' blocks lie at each grid point. -/
theorem idx : ∀ t : Fin cfg0.N, win0_0.index t = ![t.val, 0, 0] ∧ win0_1.index t = ![t.val, 0, 0] ∧ win0_2.index t = ![0, 0]
    ∧ win0_3.index t = ![0, 0] ∧ win0_4.index t = ![t.val, 0, 0] :=
  (by decide +kernel : ∀ t : Fin grid0.N, _)

/-- What the output's array holds after the run: per stacked head, the attention of its rotated rows and its values. -/
def stacked (q v : FVec Ideal S32x8192x64 .f32) : FVec Ideal S32x8192x64 .f32 := fun y =>
  att (roped fun k e => q (ix3 (y 0) k e)) (fun k e => v (ix3 (y 0) k e)) (y 1) (y 2)

/-- A point's block of queries is the point's head. -/
theorem q_block (t : Fin cfg0.N) (g : Fin 32) (hg : g.val = t.val) (k : Fin 8192) (e : Fin 64) :
    (iblk m c 0 t : FVec Ideal S1x8192x64 .f32) (ix3 0 k e) = (V m c main_v25 : FVec Ideal S32x8192x64 .f32) (ix3 g k e) := by
  blk_point [iblk, idx t]

/-- A point's block of values is the point's head. -/
theorem v_block (t : Fin cfg0.N) (g : Fin 32) (hg : g.val = t.val) (k : Fin 8192) (e : Fin 64) :
    (iblk m c 1 t : FVec Ideal S1x8192x64 .f32) (ix3 0 k e) = (V m c main_v26 : FVec Ideal S32x8192x64 .f32) (ix3 g k e) := by
  blk_point [iblk, idx t]

/-- A point's block of cosines is the table. -/
theorem cos_block (t : Fin cfg0.N) (k : Fin 8192) (e : Fin 64) :
    (iblk m c 2 t : FVec Ideal S8192x64 .f32) (ix2 k e) = Ideal.cos (angle (phase k e)) := by
  refine Eq.trans (b := (V m c main_v22 : FVec Ideal S8192x64 .f32) (ix2 k e)) ?_ ?_
  · blk_point [iblk, idx t]
  · rw [cos_read, cos_apply]

/-- A point's block of sines is the table. -/
theorem sin_block (t : Fin cfg0.N) (k : Fin 8192) (e : Fin 64) :
    (iblk m c 3 t : FVec Ideal S8192x64 .f32) (ix2 k e) = Ideal.sin (angle (phase k e)) := by
  refine Eq.trans (b := (V m c main_v24 : FVec Ideal S8192x64 .f32) (ix2 k e)) ?_ ?_
  · blk_point [iblk, idx t]
  · rw [sin_read, sin_apply]

/-- The output block over blocks whose elements are known: the attention of the rotated rows and the values. -/
theorem blockOut_eq (x0 x1 : FVec Ideal S1x8192x64 .f32) (x2 x3 : FVec Ideal S8192x64 .f32) (q v : Fin 8192 → Fin 64 → EReal)
    (h0 : ∀ k e, x0 (ix3 0 k e) = q k e) (h1 : ∀ k e, x1 (ix3 0 k e) = v k e)
    (h2 : ∀ k e, x2 (ix2 k e) = Ideal.cos (angle (phase k e))) (h3 : ∀ k e, x3 (ix2 k e) = Ideal.sin (angle (phase k e)))
    (i : Fin 8192) (d : Fin 64) :
    blockOut (F := Ideal) x0 x1 x2 x3 k0_pay3 (ix3 0 i d) = att (roped q) v i d := by
  rw [blockOut_apply]
  simp only [rot_apply, h0, h1, h2, h3]
  rfl

/-- A point's output block, at an index: the attention of the point's head. -/
theorem block_apply (t : Fin cfg0.N) (g : Fin 32) (hg : g.val = t.val) (i : Fin 8192) (d : Fin 64) :
    (outsAt0 m c t.val t.isLt).1 (ix3 0 i d) = stacked (V m c main_v25) (V m c main_v26) (ix3 g i d) := by
  rw [out_at]
  exact blockOut_eq _ _ _ _ _ _ (q_block m c t g hg) (v_block m c t g hg) (cos_block m c t) (sin_block m c t) i d

/-- An index of a head's block is a row and a lane. -/
theorem head_idx (y : S1x8192x64.Idx) : ∃ (i : Fin 8192) (d : Fin 64), y = ix3 0 i d := by
  refine ⟨y 1, y 2, (eq_ix3 y).trans ?_⟩
  rw [show y 0 = (0 : Fin 1) from Subsingleton.elim (α := Fin 1) _ _]

/-- A point's output block lies at the point's head. -/
theorem out_emb (t : Fin cfg0.N) (g : Fin 32) (hg : g.val = t.val) (i : Fin 8192) (d : Fin 64) :
    (win0_4.blk t).view.emb (ix3 0 i d : S1x8192x64.Idx) = (ix3 g i d : S32x8192x64.Idx) := by
  blk_ext [idx t]

/-- The output's array after the run. -/
theorem final : (dats m 0 c).arrAt 4 (cfgs 0).N = stacked (V m c main_v25) (V m c main_v26) := by
  refine (dats m 0 c).arrAt_eq_of_covers 4 _ (by decide +kernel) fun t _ y => ?_
  blk_simp
  rw [after0_4]
  obtain ⟨i, d, rfl⟩ := head_idx y
  have ht : t.val < 32 := lt_of_lt_of_eq t.isLt N_0
  rw [out_emb t ⟨t.val, ht⟩ rfl i d]
  exact block_apply m c t ⟨t.val, ht⟩ rfl i d

/-- The result is the output's array, its heads unstacked. -/
theorem tail (A : FVec Ideal S32x8192x64 .f32) (hA : (dats m 0 c).arrAt 4 (cfgs 0).N = A) :
    Pipeline.afterTail₀ cfgs (dats m) 0 (V0 m) [hostOps1] c main_v28 = shapeCast S2x16x8192x64 A shapeCasts_S32x8192x64_S2x16x8192x64 := by
  unfold Pipeline.afterTail₀
  simp only [hostOps1, List.flatten_cons, List.flatten_nil, List.cons_append, List.nil_append, List.append_nil]
  after_results
  rw [show Pipeline.withArrays (cfgs 0).spec c (V0 m c) (fun w => (dats m 0 c).arrAt w (cfgs 0).N) (Proc.tc.devRef main_v27) = A
    from (Pipeline.withArrays_arr spec0 (by decide) c (V0 m c) (fun w => (dats m 0 c).arrAt w (cfgs 0).N) 4).trans hA]
  rfl

end Cert.KernelIdeal.Blocks
-- ==== Proof.Ref.lean ====
module
public import proofs.«01_k».proof.Proof.Gen.ReferenceIdeal.Run
public import proofs.«01_k».proof.Proof.Words
public import Idealize.ShloMosaic.Lib.WordCmp
@[expose] public section
set_option maxRecDepth 16384
noncomputable section
namespace Cert.ReferenceIdeal.Words
open Idealize.ShloMosaic Idealize.ShloMosaic.TcCoe Cert.ReferenceIdeal Cert.ReferenceIdeal.Gen Cert.Rope
variable {F : FTy → Type} [FloatOps F]

/-- The lanes' frequencies. -/
def freqs : FVec F S64 .f32 :=
  Host.divf (Host.divf (broadcastInDim S64 ![] bcast_S_S64 (constant S_ .f32 0x3F800000#32))
    (Host.powf (broadcastInDim S64 ![] bcast_S_S64 (constant S_ .f32 0x47800000#32))
      (Host.divf (mulf (Host.floor (Host.divf (addf (broadcastInDim S64 ![] bcast_S_S64 (constant S_ .f32 0x00000000#32))
          (mulf (broadcastInDim S64 ![] bcast_S_S64 (constant S_ .f32 0x3F800000#32)) (sitofp .f32 (iotaInDim S64 32 0))))
          (broadcastInDim S64 ![] bcast_S_S64 (constant S_ .f32 0x40000000#32))))
        (broadcastInDim S64 ![] bcast_S_S64 (constant S_ .f32 0x40000000#32)))
        (broadcastInDim S64 ![] bcast_S_S64 (constant S_ .f32 0x42800000#32)))))
    (broadcastInDim S64 ![] bcast_S_S64 (constant S_ .f32 0x40C90FDB#32))

/-- The phases: row number times frequency. -/
def phases : FVec F S1x1x8192x64 .f32 :=
  mulf (broadcastInDim S1x1x8192x64 ![0, 1, 2, 3] bcast_S1x1x8192x1_S1x1x8192x64_0_1_2_3
      (shapeCast _ (sitofp .f32 (iotaInDim S8192 32 0)) shapeCasts_S8192_S1x1x8192x1))
    (broadcastInDim S1x1x8192x64 ![0, 1, 2, 3] bcast_S1x1x1x64_S1x1x8192x64_0_1_2_3 (shapeCast _ freqs shapeCasts_S64_S1x1x1x64))

/-- The angles of given phases: the phase modulo one, times 2π. -/
def angles (ph : FVec F S1x1x8192x64 .f32) : FVec F S1x1x8192x64 .f32 :=
  let one : FVec F S1x1x8192x64 .f32 := broadcastInDim S1x1x8192x64 ![] bcast_S_S1x1x8192x64 (constant S_ .f32 0x3F800000#32)
  let zero : FVec F S1x1x8192x64 .f32 := broadcastInDim S1x1x8192x64 ![] bcast_S_S1x1x8192x64 (constant S_ .f32 0x00000000#32)
  let rem : FVec F S1x1x8192x64 .f32 := Host.remf ph one
  mulf (select (andi (cmpi .ne (cmpf .olt rem zero) (broadcastInDim S1x1x8192x64 ![] bcast_S_S1x1x8192x64
        (cmpf .olt (constant (F := F) S_ .f32 0x3F800000#32) (constant S_ .f32 0x00000000#32)))) (cmpf .une rem zero))
      (addf rem one) rem)
    (broadcastInDim S1x1x8192x64 ![] bcast_S_S1x1x8192x64 (constant S_ .f32 0x40C90FDB#32))

/-- The rows with the lanes of each pair exchanged, the first of the pair negated. -/
def turned (x : FVec F S2x16x8192x64 .f32) : FVec F S2x16x8192x64 .f32 :=
  shapeCast _ (concatenate S2x16x8192x32x2 4
    [⟨S2x16x8192x32x1, (broadcastInDim S2x16x8192x32x1 ![0, 1, 2, 3] bcast_S2x16x8192x32_S2x16x8192x32x1_0_1_2_3
      (Host.negf (Host.slice S2x16x8192x32 ![0, 0, 0, 1] ![1, 1, 1, 2] x slicesBy_S2x16x8192x64_S2x16x8192x32_0s1_0s1_0s1_1s2)))⟩,
     ⟨S2x16x8192x32x1, (broadcastInDim S2x16x8192x32x1 ![0, 1, 2, 3] bcast_S2x16x8192x32_S2x16x8192x32x1_0_1_2_3
      (Host.slice S2x16x8192x32 ![0, 0, 0, 0] ![1, 1, 1, 2] x slicesBy_S2x16x8192x64_S2x16x8192x32_0s1_0s1_0s1_0s2))⟩]
    concatenates_S2x16x8192x32x1_S2x16x8192x32x1_S2x16x8192x32x2_d4) shapeCasts_S2x16x8192x32x2_S2x16x8192x64

/-- The rows `x` rotated by given angles: the rows times the cosines plus the turned rows `t` times the sines. -/
def rot (x t : FVec F S2x16x8192x64 .f32) (a : FVec F S1x1x8192x64 .f32) : FVec F S2x16x8192x64 .f32 :=
  addf (mulf x (broadcastInDim S2x16x8192x64 ![0, 1, 2, 3] bcast_S1x1x8192x64_S2x16x8192x64_0_1_2_3 (Host.cos a)))
    (mulf t (broadcastInDim S2x16x8192x64 ![0, 1, 2, 3] bcast_S1x1x8192x64_S2x16x8192x64_0_1_2_3 (Host.sin a)))

/-- The mask: one where the key is before the query and at most 128 rows before it. -/
def mask : FVec F S8192x8192 .f32 :=
  let keys : IVec S8192x8192 32 := broadcastInDim S8192x8192 ![0, 1] bcast_S1x8192_S8192x8192_0_1 (shapeCast _ (iotaInDim S8192 32 0) shapeCasts_S8192_S1x8192)
  let rows : IVec S8192x1 32 := shapeCast _ (iotaInDim S8192 32 0) shapeCasts_S8192_S8192x1
  uitofp .f32 (andi (cmpi .slt keys (broadcastInDim S8192x8192 ![0, 1] bcast_S8192x1_S8192x8192_0_1 rows))
    (cmpi .sge keys (broadcastInDim S8192x8192 ![0, 1] bcast_S8192x1_S8192x8192_0_1
      (subi rows (broadcastInDim S8192x1 ![] bcast_S_S8192x1 (constantI S_ 32 128#32))))))

/-- The attention of given rows and values: the masked scores times the values. -/
def attend (q v : FVec F S2x16x8192x64 .f32) : FVec F S2x16x8192x64 .f32 :=
  Host.dotGeneral dot_S2x16x8192x8192_S2x16x8192x64_S2x16x8192x64_3_2_2_3_01_01 none
    (mulf (Host.dotGeneral dot_S2x16x8192x64_S2x16x8192x64_S2x16x8192x8192_3_3_2_2_01_01 none q q)
      (broadcastInDim S2x16x8192x8192 ![0, 1, 2, 3] bcast_S1x1x8192x8192_S2x16x8192x8192_0_1_2_3
        (broadcastInDim S1x1x8192x8192 ![2, 3] bcast_S8192x8192_S1x1x8192x8192_2_3 mask))) v

/-- The reference's result is the attention of the rotated first argument and the third. -/
theorem result (m : (ℓ : Loc nD τ sig) → Buf (Elt F) ℓ) (c : Dev nD) :
    Cert.ReferenceIdeal.Value.res_main_v58 m c
      = attend (rot (m ((c.tc : Thread nD τ).loc main_arg0)) (turned (m ((c.tc : Thread nD τ).loc main_arg0))) (angles phases)) (m ((c.tc : Thread nD τ).loc main_arg2)) := by
  rfl

/-- The word of the literal 2. -/
theorem ofBits_two : Ideal.ofBits FTy.f32 1073741824#32 = ((2 : ℝ) : EReal) := by
  simp [Ideal.ofBits, Ideal.ieee, -EReal.coe_mul]; norm_num
/-- The word of the literal 64. -/
theorem ofBits_64 : Ideal.ofBits FTy.f32 1115684864#32 = ((64 : ℝ) : EReal) := by
  simp [Ideal.ofBits, Ideal.ieee, -EReal.coe_mul]; norm_num
/-- The word of the literal 65536. -/
theorem ofBits_65536 : Ideal.ofBits FTy.f32 1199570944#32 = ((65536 : ℝ) : EReal) := by
  simp [Ideal.ofBits, Ideal.ieee, -EReal.coe_mul]; norm_num

/-- The real identity behind the frequencies: `1 / 65536 ^ (n / 64)` is `2 ^ (-n / 4)`. -/
theorem rpow_rate (n : ℝ) : 1 / Real.rpow 65536 (n / 64) = Real.rpow 2 (-n / 4) := by
  show 1 / (65536 : ℝ) ^ (n / 64) = (2 : ℝ) ^ (-n / 4)
  rw [show (65536 : ℝ) = (2 : ℝ) ^ (16 : ℝ) by norm_num, ← Real.rpow_mul (by norm_num), one_div, ← Real.rpow_neg (by norm_num)]
  congr 1
  ring

/-- The lane number over two, rounded down, as the reference computes it. -/
theorem floor_half (d : Fin 64) : Ideal.liftRound Int.floor
    (Ideal.div (FloatOps.sitofp (F := Ideal) FTy.f32 (BitVec.ofNat 32 d.val)) ((2 : ℝ) : EReal)) = (((d.val / 2 : ℕ) : ℝ) : EReal) := by
  rw [show FloatOps.sitofp (F := Ideal) FTy.f32 (BitVec.ofNat 32 d.val) = ((d.val : ℝ) : EReal) from ?_, Ideal.div_coe (by norm_num),
    ← EReal.coe_mul]
  · show (((⌊(d.val : ℝ) * (1 / 2)⌋ : ℤ) : ℝ) : EReal) = _
    rw [show ⌊(d.val : ℝ) * (1 / 2)⌋ = ((d.val / 2 : ℕ) : ℤ) from ?_]
    · norm_cast
    · refine Int.floor_eq_iff.mpr ⟨?_, ?_⟩
      · have h : ((d.val / 2 * 2 : ℕ) : ℝ) ≤ d.val := by exact_mod_cast Nat.div_mul_le_self _ _
        rw [Int.cast_natCast]
        push_cast at h
        linarith
      · have h : (d.val : ℝ) < ((d.val / 2 * 2 + 2 : ℕ) : ℝ) := by exact_mod_cast (by omega : d.val < d.val / 2 * 2 + 2)
        rw [Int.cast_natCast]
        push_cast at h
        linarith
  · show (((BitVec.ofNat 32 d.val).toInt : ℝ) : EReal) = _
    rw [WordCmp.toInt_ofNat_of_lt (by have := d.isLt; omega)]
    norm_cast

/-- The reference's frequencies are the rates. -/
theorem freqs_apply (d : Fin 64) : freqs (F := Ideal) (ix1 d) = rate d := by
  pointwise [freqs]
  rw [ofBits_two, ofBits_64, ofBits_65536, floor_half, ← EReal.coe_mul, Ideal.div_coe (by norm_num), ← EReal.coe_mul, Ideal.pow_coe_coe,
    Ideal.div_coe (y := Real.rpow 65536 _) (Real.rpow_pos_of_pos (by norm_num) _).ne', one_mul]
  unfold rate
  rw [← rpow_rate, show ((d.val / 2 : ℕ) : ℝ) * 2 * (1 / 64) = ((d.val / 2 * 2 : ℕ) : ℝ) / 64 by push_cast; ring]

/-- The reference's phases. -/
theorem phases_apply (i : Fin 8192) (d : Fin 64) : phases (F := Ideal) (ix4 0 0 i d) = phase i d := by
  pointwise [phases]
  rw [freqs_apply]
  rfl

/-- The reference's angles. -/
theorem angles_apply (ph : FVec Ideal S1x1x8192x64 .f32) (i : Fin 8192) (d : Fin 64) :
    angles (F := Ideal) ph (ix4 0 0 i d) = angle (ph (ix4 0 0 i d)) := by
  pointwise [angles]
  rfl

/-- The reference's turned rows. -/
theorem turned_apply (x : FVec Ideal S2x16x8192x64 .f32) (b : Fin 2) (h : Fin 16) (i : Fin 8192) (d : Fin 64) :
    turned (F := Ideal) x (ix4 b h i d) = turn (fun e => x (ix4 b h i e)) d := by
  pointwise [turned]
  unfold turn mate
  by_cases hd : d.val % 2 = 0
  · rw [dif_pos (by omega), if_pos hd]
    refine congrArg (fun e => -x (ix4 b h i e)) (Fin.ext ?_)
    show 1 + 2 * (d.val / 2) = if d.val % 2 = 0 then d.val + 1 else d.val - 1
    rw [if_pos hd]
    omega
  · rw [dif_neg (by omega), if_neg hd]
    refine congrArg (fun e => x (ix4 b h i e)) (Fin.ext ?_)
    show 2 * (d.val / 2) = if d.val % 2 = 0 then d.val + 1 else d.val - 1
    rw [if_neg hd]
    omega

/-- The reference's rotated rows, over given angles. -/
theorem rot_apply (x t : FVec Ideal S2x16x8192x64 .f32) (a : FVec Ideal S1x1x8192x64 .f32) (b : Fin 2) (h : Fin 16) (i : Fin 8192) (d : Fin 64) :
    rot (F := Ideal) x t a (ix4 b h i d)
      = x (ix4 b h i d) * Ideal.cos (a (ix4 0 0 i d)) + t (ix4 b h i d) * Ideal.sin (a (ix4 0 0 i d)) := by
  pointwise [rot]

/-- The row 128 before row `i`, as a signed word. -/
theorem toInt_before (i : Fin 8192) : (IntOp.subi (BitVec.ofNat 32 i.val) 128#32).toInt = (i.val : ℤ) - 128 := by
  show (BitVec.ofNat 32 i.val - 128#32).toInt = _
  have hi := i.isLt
  rw [BitVec.toInt_sub, WordCmp.toInt_ofNat_of_lt (by omega)]
  show ((i.val : ℤ) - 128).bmod (2 ^ 32) = _
  rw [Int.bmod_eq_of_le] <;> omega

/-- A set bit is the number one. -/
theorem bit_one : FloatOps.uitofp (F := Ideal) FTy.f32 1#1 = 1 := by
  show (((1#1).toNat : ℝ) : EReal) = 1
  norm_num

/-- A clear bit is the number zero. -/
theorem bit_zero : FloatOps.uitofp (F := Ideal) FTy.f32 0#1 = 0 := by
  show (((0#1).toNat : ℝ) : EReal) = 0
  norm_num

/-- The reference's mask is one on the band `i - 128 ≤ k < i` and zero off it. -/
theorem mask_apply (i k : Fin 8192) :
    mask (F := Ideal) (ix2 i k) = if k.val < i.val ∧ i.val ≤ k.val + 128 then 1 else 0 := by
  have hi := i.isLt
  have hk := k.isLt
  pointwise [mask]
  have h1 : IntOp.cmpi .sge (BitVec.ofNat 32 k.val) (IntOp.subi (BitVec.ofNat 32 i.val) 128#32) = BitVec.ofBool (decide (i.val ≤ k.val + 128)) := by
    unfold IntOp.cmpi BitVec.sle
    rw [toInt_before, WordCmp.toInt_ofNat_of_lt (by omega)]
    refine congrArg BitVec.ofBool (decide_eq_decide.mpr ?_)
    omega
  rw [h1]
  simp (disch := omega) only [hlo_ix]
  by_cases h2 : k.val < i.val <;> by_cases h3 : i.val ≤ k.val + 128 <;> simp [h2, h3, bit_one, bit_zero]

/-- The reference's attention of a head is the attention of its rows. -/
theorem attend_apply (q v : FVec Ideal S2x16x8192x64 .f32) (b : Fin 2) (h : Fin 16) (i : Fin 8192) (d : Fin 64) :
    attend (F := Ideal) q v (ix4 b h i d) = att (fun k e => q (ix4 b h k e)) (fun k e => v (ix4 b h k e)) i d := by
  pointwise [attend]
  simp only [mask_apply]
  rfl

/-- The reference's result at an index: the attention of the head's rotated rows and its values. -/
theorem result_apply (m : (ℓ : Loc nD τ sig) → Buf (Elt Ideal) ℓ) (c : Dev nD) (b : Fin 2) (h : Fin 16) (i : Fin 8192) (d : Fin 64) :
    (Cert.ReferenceIdeal.Value.res_main_v58 m c : FVec Ideal S2x16x8192x64 .f32) (ix4 b h i d)
      = att (roped fun k e => (m ((c.tc : Thread nD τ).loc main_arg0) : FVec Ideal S2x16x8192x64 .f32) (ix4 b h k e))
          (fun k e => (m ((c.tc : Thread nD τ).loc main_arg2) : FVec Ideal S2x16x8192x64 .f32) (ix4 b h k e)) i d := by
  rw [result, attend_apply]
  simp only [rot_apply, angles_apply, phases_apply, turned_apply]
  rfl

end Cert.ReferenceIdeal.Words
-- ==== Proof.Equal.lean ====
module
public import proofs.«01_k».proof.Proof.Result
public import proofs.«01_k».proof.Proof.Ref
@[expose] public section
set_option maxRecDepth 16384
noncomputable section
namespace Cert.KernelIdeal.Blocks
open Idealize.ShloMosaic Idealize.ShloMosaic.TcCoe Idealize.SL.Sem Cert.KernelIdeal Cert.KernelIdeal.Gen Cert.Rope

/-- A head's row in the stacked array is its row in the argument. -/
theorem stack_apply (x : FVec Ideal S2x16x8192x64 .f32) (b : Fin 2) (h : Fin 16) (g : Fin 32) (hg : g.val = 16 * b.val + h.val)
    (k : Fin 8192) (e : Fin 64) :
    shapeCast S32x8192x64 x shapeCasts_S2x16x8192x64_S32x8192x64 (ix3 g k e) = x (ix4 b h k e) := by
  pointwise
  blk_ext

/-- A head's row in the unstacked array is its row in the stacked one. -/
theorem unstack_apply (x : FVec Ideal S32x8192x64 .f32) (b : Fin 2) (h : Fin 16) (g : Fin 32) (hg : g.val = 16 * b.val + h.val)
    (k : Fin 8192) (e : Fin 64) :
    shapeCast S2x16x8192x64 x shapeCasts_S32x8192x64_S2x16x8192x64 (ix4 b h k e) = x (ix3 g k e) := by
  pointwise
  blk_ext

/-- The kernel's result over its arguments: per head, the attention of the rotated rows and the values. -/
def heads (q v : FVec Ideal S2x16x8192x64 .f32) : FVec Ideal S2x16x8192x64 .f32 := fun y =>
  att (roped fun k e => q (ix4 (y 0) (y 1) k e)) (fun k e => v (ix4 (y 0) (y 1) k e)) (y 2) (y 3)

/-- The heads stacked, attended and unstacked are the heads attended. -/
theorem unstacked (q v : FVec Ideal S2x16x8192x64 .f32) :
    shapeCast S2x16x8192x64 (stacked (shapeCast S32x8192x64 q shapeCasts_S2x16x8192x64_S32x8192x64)
      (shapeCast S32x8192x64 v shapeCasts_S2x16x8192x64_S32x8192x64)) shapeCasts_S32x8192x64_S2x16x8192x64 = heads q v := by
  funext y
  obtain ⟨b, h, i, d, rfl⟩ : ∃ (b : Fin 2) (h : Fin 16) (i : Fin 8192) (d : Fin 64), y = ix4 b h i d :=
    ⟨y 0, y 1, y 2, y 3, eq_ix4 y⟩
  have hg : 16 * b.val + h.val < 32 := by omega
  rw [unstack_apply _ b h ⟨16 * b.val + h.val, hg⟩ rfl]
  show att (roped fun k e => shapeCast S32x8192x64 q shapeCasts_S2x16x8192x64_S32x8192x64 (ix3 (⟨16 * b.val + h.val, hg⟩ : Fin 32) k e))
    (fun k e => shapeCast S32x8192x64 v shapeCasts_S2x16x8192x64_S32x8192x64 (ix3 (⟨16 * b.val + h.val, hg⟩ : Fin 32) k e)) i d
    = att (roped fun k e => q (ix4 b h k e)) (fun k e => v (ix4 b h k e)) i d
  simp only [stack_apply _ b h ⟨16 * b.val + h.val, hg⟩ rfl]

variable (m : (ℓ : Loc nD τ sig) → Buf (Elt Ideal) ℓ) (ρ : Dev nD → PrngReg)

/-- Every execution of the kernel ends with the heads attended and the arguments unchanged. -/
theorem run : θ_run defs (onTc (τ := τ) (main (F := Ideal))) ⟨m, fun _ => 0, ρ⟩ (fun r => ∀ c : Dev nD,
      r.2.mem ((c.tc : Thread nD τ).loc main_v28) = heads (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v28 (Pipeline.mem_restRefs_of main_v28 (by decide) (by decide))).trans
      ((tail m c _ (final m c)).trans (by rw [q_read, v_read]; exact unstacked _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The reference's result is the heads attended. -/
theorem reference_heads (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v58 m' c
      = heads (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg2)) := by
  funext y
  obtain ⟨b, h, i, d, rfl⟩ : ∃ (b : Fin 2) (h : Fin 16) (i : Fin 8192) (d : Fin 64), y = ix4 b h i d :=
    ⟨y 0, y 1, y 2, y 3, eq_ix4 y⟩
  exact Cert.ReferenceIdeal.Words.result_apply m' c b h i d

end Cert.KernelIdeal.Blocks
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments unchanged and every semaphore counter at zero. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩) (Cert.ReferenceIdeal.Value.run m g)

/-- The kernel and the reference end with the same array: the heads attended. -/
theorem same : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Blocks.heads (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Blocks.run m g,
    (θ_run Cert.ReferenceIdeal.defs _ _).mono (fun _ h c => ⟨(h c).1.trans ((Cert.KernelIdeal.Blocks.reference_heads m' c).trans
      (congrArg₂ Cert.KernelIdeal.Blocks.heads (hagree c).1 (hagree c).2.2)), (h c).2⟩) (Cert.ReferenceIdeal.Value.run m' g')⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same⟩

end Cert.Proof

end
